-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S256x256 : Shape := ⟨2, ![256, 256]⟩
abbrev S512x4096 : Shape := ⟨2, ![512, 4096]⟩
abbrev S512x1 : Shape := ⟨2, ![512, 1]⟩
abbrev S512x256 : Shape := ⟨2, ![512, 256]⟩

abbrev nBuf : Space → Nat
  | .hbm => 13
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S256x256, .f32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S4096x8192, .f32⟩
  | .local _ .vmem, ⟨0, _⟩ => ⟨S512x4096, .f32⟩
  | .local _ .vmem, ⟨1, _⟩ => ⟨S512x4096, .f32⟩
  | .local _ .vmem, ⟨2, _⟩ => ⟨S256x256, .f32⟩
  | .local _ .vmem, ⟨3, _⟩ => ⟨S512x4096, .f32⟩
  | .local _ .vmem, ⟨4, _⟩ => ⟨S512x4096, .f32⟩
  | .local _ .vmem, ⟨5, _⟩ => ⟨S512x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x8192 : Shape := ⟨2, ![4096, 8192]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S_, .f32⟩
  | .hbm, ⟨3, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Upto.lean ====
module

public import Idealize.ShloMosaic.Lib.ValueIdx

/-! Running sums of a matrix's rows, in plain terms. `upto x r n` is the sum of the first `n` entries of row `r`.
Everything here is about extended reals and natural numbers only: no kernel, no memory. Addition of extended reals is
commutative and associative, so no entry has to be finite. -/

@[expose] public section
noncomputable section

namespace Cert.Upto

open Idealize.ShloMosaic Idealize.ShloMosaic.ValueIdx

variable {M N : ℕ}

/-- Entry `k` of row `r`, and zero past the end of the row. -/
def cell (x : (⟨2, ![M, N]⟩ : Shape).Idx → EReal) (r : Fin M) (k : ℕ) : EReal :=
  if h : k < N then x (ix2 r ⟨k, h⟩) else 0

/-- The sum of the first `n` entries of row `r`. -/
def upto (x : (⟨2, ![M, N]⟩ : Shape).Idx → EReal) (r : Fin M) (n : ℕ) : EReal :=
  ∑ k ∈ Finset.range n, cell x r k

/-- Inside the row, `cell` is the matrix's entry. -/
theorem cell_of_lt (x : (⟨2, ![M, N]⟩ : Shape).Idx → EReal) (r : Fin M) (k : ℕ) (h : k < N) :
    cell x r k = x (ix2 r ⟨k, h⟩) := dif_pos h

/-- The empty running sum is zero. -/
theorem upto_zero (x : (⟨2, ![M, N]⟩ : Shape).Idx → EReal) (r : Fin M) : upto x r 0 = 0 := rfl

/-- A running sum of `a + b` entries is the one of `a` entries plus the `b` entries after them. -/
theorem upto_add (x : (⟨2, ![M, N]⟩ : Shape).Idx → EReal) (r : Fin M) (a b : ℕ) :
    upto x r (a + b) = upto x r a + ∑ k ∈ Finset.range b, cell x r (a + k) :=
  Finset.sum_range_add _ _ _

/-- Weighting the first `j + 1` of `n` terms with one and the others with zero leaves the sum of those first terms:
    this is a row times a column of the upper triangular matrix of ones. -/
theorem sum_mul_tri {n : ℕ} (f : ℕ → EReal) (j : ℕ) (hj : j < n) :
    (∑ k : Fin n, f k.val * (if k.val ≤ j then (1 : EReal) else 0)) = ∑ k ∈ Finset.range (j + 1), f k := by
  rw [Fin.sum_univ_eq_sum_range (fun k => f k * (if k ≤ j then (1 : EReal) else 0)) n,
    show n = (j + 1) + (n - (j + 1)) by omega, Finset.sum_range_add,
    Finset.sum_eq_zero (s := Finset.range (n - (j + 1))) (fun k _ => by rw [if_neg (by omega), mul_zero]), add_zero]
  exact Finset.sum_congr rfl fun k hk => by
    rw [if_pos (by have := Finset.mem_range.mp hk; omega), mul_one]

/-- A window of `n` positions ending at `l`, in which the positions before the start count as zero, sums the first
    `l + 1` terms. -/
theorem sum_window {n : ℕ} (f : ℕ → EReal) (l : ℕ) (hl : l < n) :
    (∑ b : Fin n, if n - 1 ≤ l + b.val then f (l + b.val - (n - 1)) else 0) = ∑ k ∈ Finset.range (l + 1), f k := by
  rw [Fin.sum_univ_eq_sum_range (fun b => if n - 1 ≤ l + b then f (l + b - (n - 1)) else 0) n,
    show Finset.range n = Finset.range ((n - 1 - l) + (l + 1)) by congr 1; omega, Finset.sum_range_add,
    Finset.sum_eq_zero (s := Finset.range (n - 1 - l))
      (fun k hk => by rw [if_neg (by have := Finset.mem_range.mp hk; omega)]), zero_add]
  exact Finset.sum_congr rfl fun k _ => by
    rw [if_pos (by omega)]
    congr 1
    omega

/-- Adding up a list from the left, starting at `v`, gives `v` plus the list's sum. -/
theorem foldl_add {α : Type*} (g : α → EReal) (L : List α) (v : EReal) :
    L.foldl (fun r n => r + g n) v = v + (L.map g).sum := by
  induction L generalizing v with
  | nil => simp
  | cons a L ih => rw [List.foldl_cons, ih, List.map_cons, List.sum_cons, add_assoc]

end Cert.Upto
end
-- ==== Proof.Step.lean ====
module

public import proofs.«01_k».proof.Proof.Upto
public import proofs.«01_k».proof.Proof.Gen.KernelIdeal.Skeleton
public import Idealize.ShloMosaic.Lib.Pipeline.Value
public import Idealize.ShloMosaic.Lib.Pipeline.ValueKit.Tiles
public import Idealize.ShloMosaic.Lib.MatmulPlain

/-! One step of the kernel's body. A block is 512 rows by 4096 columns, worked through in sixteen tiles of 256 columns.
A step multiplies a tile by the upper triangular matrix of ones and adds, in each row, the last entry of the step
before. Here: if the step before left the running sums of its columns, so does this one. Then the stored values of the
body, one after the other, follow from that one fact. -/

@[expose] public section
noncomputable section

namespace Cert.Step

open Cert.KernelIdeal Cert.KernelIdeal.Gen Idealize.ShloMosaic Idealize.ShloMosaic.TcCoe
open Idealize.ShloMosaic.ValueIdx Cert.Upto

/-- `T` is the upper triangular matrix of ones. -/
def Tri (T : FVec Ideal S256x256 .f32) : Prop :=
  ∀ k j : Fin 256, T (ix2 k j) = if k.val ≤ j.val then (1 : EReal) else 0

/-- The tile of the block `x` that starts at column `o`. -/
def seg (x : FVec Ideal S512x4096 .f32) (o : ℕ) : FVec Ideal S512x256 .f32 :=
  fun j => cell (M := 512) (N := 4096) x (j 0) (o + (j 1).val)

/-- The running sums for the tile that starts at column `o`, each row begun at `c`. -/
def tile (c : Fin 512 → EReal) (x : FVec Ideal S512x4096 .f32) (o : ℕ) : FVec Ideal S512x256 .f32 :=
  fun j => c (j 0) + upto (M := 512) (N := 4096) x (j 0) (o + (j 1).val + 1)

/-- A load of 256 columns starting at column `o` reads that tile. -/
theorem ld_seg (x : FVec Ideal S512x4096 .f32) (o : ℕ)
    (inb : ∀ a, (![0, o] : Fin 2 → ℕ) a + (![512, 256] : Fin 2 → ℕ) a ≤ S512x4096.size a) :
    View.ld (Val := Elt Ideal) (e' := .f32) x (Rect.unit (s := S512x4096) ![0, o] ![512, 256] inb) = seg x o := by
  funext j
  have ho : o + 256 ≤ 4096 := inb 1
  have hj : (j 1).val < 256 := (j 1).isLt
  refine Eq.trans ?_ (cell_of_lt (M := 512) (N := 4096) x (j 0) (o + (j 1).val) (by omega)).symm
  refine View.ld_unit_apply_of _ _ _ _ _ _ fun a => ?_
  match a with
  | ⟨0, _⟩ => exact (Nat.zero_add _).symm
  | ⟨1, _⟩ => rfl

/-- The product of the tile at `o` with the triangle, at row `r` and column `j`: the tile's first `j + 1` entries of the
    row, added up. -/
theorem matmul_seg (T : FVec Ideal S256x256 .f32) (hT : Tri T) (x : FVec Ideal S512x4096 .f32) (o : ℕ)
    (r : Fin 512) (j : Fin 256) :
    matmul (F := Ideal) dot_S512x256_S256x256_S512x256_1_0_0_1_n_n none (seg x o) T
        (constant S512x256 .f32 0x00000000#32) (ix2 r j) =
      ∑ k ∈ Finset.range (j.val + 1), cell (M := 512) (N := 4096) x r (o + k) := by
  refine (Ideal.matmul_plain_apply (M := 512) (K := 256) (N := 256) none (seg x o) T
    (constant S512x256 .f32 0x00000000#32) r j).trans ?_
  rw [show (constant (F := Ideal) S512x256 .f32 0x00000000#32) (ix2 r j) = (0 : EReal) from Ideal.ofBits_zero_f32, zero_add,
    ← sum_mul_tri (n := 256) (fun k => cell (M := 512) (N := 4096) x r (o + k)) j.val j.isLt]
  exact Finset.sum_congr rfl fun k _ => by rw [hT k j]; rfl

/-- A step whose carry column is `c'`, when `c'` holds the running sums up to column `o`. -/
theorem step (T : FVec Ideal S256x256 .f32) (hT : Tri T) (c : Fin 512 → EReal) (x : FVec Ideal S512x4096 .f32) (o : ℕ)
    (c' : FVec Ideal S512x1 .f32)
    (hc : ∀ r : Fin 512, c' (ix2 r 0) = c r + upto (M := 512) (N := 4096) x r o) :
    addf (matmul (F := Ideal) dot_S512x256_S256x256_S512x256_1_0_0_1_n_n none (seg x o) T
        (constant S512x256 .f32 0x00000000#32)) (broadcastTo S512x256 c' broadcasts_S512x1_S512x256) = tile c x o := by
  funext j
  obtain ⟨r, q, rfl⟩ : ∃ (r : Fin 512) (q : Fin 256), j = ix2 r q := ⟨j 0, j 1, eq_ix2 j⟩
  show matmul (F := Ideal) dot_S512x256_S256x256_S512x256_1_0_0_1_n_n none (seg x o) T
        (constant S512x256 .f32 0x00000000#32) (ix2 r q) + broadcastTo S512x256 c' broadcasts_S512x1_S512x256 (ix2 r q)
      = c r + upto (M := 512) (N := 4096) x r (o + q.val + 1)
  rw [matmul_seg T hT, show broadcastTo S512x256 c' broadcasts_S512x1_S512x256 (ix2 r q) = c' (ix2 r 0) from
      congrArg c' (funext fun a => by match a with | ⟨0, _⟩ => rfl | ⟨1, _⟩ => rfl),
    hc r, add_comm (Finset.sum _ _), add_assoc o, upto_add, add_assoc (c r)]

/-- A tile's last column. -/
theorem lastcol (c : Fin 512 → EReal) (x : FVec Ideal S512x4096 .f32) (o : ℕ) (r : Fin 512) :
    extractStridedSlice S512x1 ![0, 255] (tile c x o) slices_S512x256_o0_255_S512x1 (ix2 r 0) =
      c r + upto (M := 512) (N := 4096) x r (o + 256) := by
  refine (congrArg (tile c x o) (a₂ := ix2 r ⟨255, by omega⟩) ?_).trans rfl
  funext a
  match a with
  | ⟨0, _⟩ => exact Fin.ext (Nat.zero_add _)
  | ⟨1, _⟩ => rfl

/-- A step after the tile at `o` gives the tile at `o + 256`. -/
theorem next (T : FVec Ideal S256x256 .f32) (hT : Tri T) (c : Fin 512 → EReal) (x : FVec Ideal S512x4096 .f32) (o : ℕ) :
    addf (matmul (F := Ideal) dot_S512x256_S256x256_S512x256_1_0_0_1_n_n none (seg x (o + 256)) T
        (constant S512x256 .f32 0x00000000#32))
      (broadcastTo S512x256 (extractStridedSlice S512x1 ![0, 255] (tile c x o) slices_S512x256_o0_255_S512x1)
        broadcasts_S512x1_S512x256) = tile c x (o + 256) :=
  step T hT c x (o + 256) _ (lastcol c x o)

/-- The column of row starts, as the body holds it. -/
def col (c : Fin 512 → EReal) : FVec Ideal S512x1 .f32 := fun j => c (j 0)

/-- Reading the matrix into the body changes nothing. -/
theorem pay5 (T : FVec Ideal S256x256 .f32) : k0_pay5 (F := Ideal) T = T := shapeCast_self _ _

/-- The reset of the carried column: zero in every row. -/
theorem pay4 : k0_pay4 (F := Ideal) = col fun _ => 0 := by
  unfold k0_pay4
  dsimp only
  rw [shapeCast_self]
  funext j
  exact Ideal.ofBits_zero_f32

section
variable (T : FVec Ideal S256x256 .f32) (hT : Tri T) (c : Fin 512 → EReal) (x : FVec Ideal S512x4096 .f32)
include hT

/-- What the body stores in columns 0 to 255. -/
theorem pay6 : k0_pay6 (F := Ideal) (col c) T (seg x 0) = tile c x 0 := by
  unfold k0_pay6
  dsimp only
  rw [pay5]
  exact step T hT c x 0 (col c) fun r => (add_zero _).symm

/-- What the body stores in columns 256 to 511. -/
theorem pay7 : k0_pay7 (F := Ideal) (col c) T (seg x 0) (seg x 256) = tile c x 256 := by
  unfold k0_pay7
  dsimp only
  rw [pay6 T hT, pay5]
  exact next T hT c x 0

/-- What the body stores in columns 512 to 767. -/
theorem pay8 : k0_pay8 (F := Ideal) (col c) T (seg x 0) (seg x 256) (seg x 512) = tile c x 512 := by
  unfold k0_pay8
  dsimp only
  rw [pay7 T hT, pay5]
  exact next T hT c x 256

/-- What the body stores in columns 768 to 1023. -/
theorem pay9 : k0_pay9 (F := Ideal) (col c) T (seg x 0) (seg x 256) (seg x 512) (seg x 768) = tile c x 768 := by
  unfold k0_pay9
  dsimp only
  rw [pay8 T hT, pay5]
  exact next T hT c x 512

/-- What the body stores in columns 1024 to 1279. -/
theorem pay10 : k0_pay10 (F := Ideal) T (tile c x 768) (seg x 1024) = tile c x 1024 := by
  unfold k0_pay10
  dsimp only
  exact next T hT c x 768

/-- What the body stores in columns 1280 to 1535. -/
theorem pay11 : k0_pay11 (F := Ideal) T (tile c x 768) (seg x 1024) (seg x 1280) = tile c x 1280 := by
  unfold k0_pay11
  dsimp only
  rw [pay10 T hT]
  exact next T hT c x 1024

/-- What the body stores in columns 1536 to 1791. -/
theorem pay12 : k0_pay12 (F := Ideal) T (tile c x 768) (seg x 1024) (seg x 1280) (seg x 1536) = tile c x 1536 := by
  unfold k0_pay12
  dsimp only
  rw [pay11 T hT]
  exact next T hT c x 1280

/-- What the body stores in columns 1792 to 2047. -/
theorem pay13 : k0_pay13 (F := Ideal) T (tile c x 768) (seg x 1024) (seg x 1280) (seg x 1536) (seg x 1792) = tile c x 1792 := by
  unfold k0_pay13
  dsimp only
  rw [pay12 T hT]
  exact next T hT c x 1536

/-- What the body stores in columns 2048 to 2303. -/
theorem pay14 : k0_pay14 (F := Ideal) T (tile c x 768) (seg x 1024) (seg x 1280) (seg x 1536) (seg x 1792) (seg x 2048) = tile c x 2048 := by
  unfold k0_pay14
  dsimp only
  rw [pay13 T hT]
  exact next T hT c x 1792

/-- What the body stores in columns 2304 to 2559. -/
theorem pay15 : k0_pay15 (F := Ideal) T (tile c x 2048) (seg x 2304) = tile c x 2304 := by
  unfold k0_pay15
  dsimp only
  exact next T hT c x 2048

/-- What the body stores in columns 2560 to 2815. -/
theorem pay16 : k0_pay16 (F := Ideal) T (tile c x 2048) (seg x 2304) (seg x 2560) = tile c x 2560 := by
  unfold k0_pay16
  dsimp only
  rw [pay15 T hT]
  exact next T hT c x 2304

/-- What the body stores in columns 2816 to 3071. -/
theorem pay17 : k0_pay17 (F := Ideal) T (tile c x 2048) (seg x 2304) (seg x 2560) (seg x 2816) = tile c x 2816 := by
  unfold k0_pay17
  dsimp only
  rw [pay16 T hT]
  exact next T hT c x 2560

/-- What the body stores in columns 3072 to 3327. -/
theorem pay18 : k0_pay18 (F := Ideal) T (tile c x 2048) (seg x 2304) (seg x 2560) (seg x 2816) (seg x 3072) = tile c x 3072 := by
  unfold k0_pay18
  dsimp only
  rw [pay17 T hT]
  exact next T hT c x 2816

/-- What the body stores in columns 3328 to 3583. -/
theorem pay19 : k0_pay19 (F := Ideal) T (tile c x 2048) (seg x 2304) (seg x 2560) (seg x 2816) (seg x 3072) (seg x 3328) = tile c x 3328 := by
  unfold k0_pay19
  dsimp only
  rw [pay18 T hT]
  exact next T hT c x 3072

/-- What the body stores in columns 3584 to 3839. -/
theorem pay1 : k0_pay1 (F := Ideal) T (tile c x 3328) (seg x 3584) = tile c x 3584 := by
  unfold k0_pay1
  dsimp only
  exact next T hT c x 3328

/-- What the body stores in columns 3840 to 4095. -/
theorem pay2 : k0_pay2 (F := Ideal) T (tile c x 3328) (seg x 3584) (seg x 3840) = tile c x 3840 := by
  unfold k0_pay2
  dsimp only
  rw [pay1 T hT]
  exact next T hT c x 3584

/-- What the body leaves in the carried column: the whole row of the block added to where the row began. -/
theorem pay3 : k0_pay3 (F := Ideal) T (tile c x 3328) (seg x 3584) (seg x 3840) =
    col fun r => c r + upto (M := 512) (N := 4096) x r 4096 := by
  unfold k0_pay3
  dsimp only
  rw [pay2 T hT, shapeCast_self]
  funext j
  obtain ⟨r, q, rfl⟩ : ∃ (r : Fin 512) (q : Fin 1), j = ix2 r q := ⟨j 0, j 1, eq_ix2 j⟩
  rw [Subsingleton.elim q 0]
  exact lastcol c x 3840 r

end

end Cert.Step
end
-- ==== Proof.Block.lean ====
module

public import proofs.«01_k».proof.Proof.Step
public import proofs.«01_k».proof.Proof.Gen.KernelIdeal.Value
public import Idealize.ShloMosaic.Lib.Tactic

/-! What one block computes. The body's sixteen stores fill the 512 by 4096 block with the running sums of its rows, each
row begun at what the carried column held; the carried column ends with the whole row added. In the first block of a
row the column is reset to zero first. -/

@[expose] public section
noncomputable section

namespace Cert.Block

open Cert.KernelIdeal Cert.KernelIdeal.Gen Idealize.ShloMosaic Idealize.ShloMosaic.TcCoe Idealize.SL.Sem
open Idealize.ShloMosaic.ValueIdx Cert.Upto Cert.Step

/-- The running sums of a block's rows, each begun at `c`. -/
def sums (c : Fin 512 → EReal) (x : Vec Ideal S512x4096 .f32) : Vec Ideal S512x4096 .f32 :=
  fun y => c (y 0) + upto (M := 512) (N := 4096) x (y 0) ((y 1).val + 1)

/-- The carried column after the block: each row's start plus the whole row. -/
def ends (c : Fin 512 → EReal) (x : Vec Ideal S512x4096 .f32) : Vec Ideal S512x1 .f32 :=
  col fun r => c r + upto (M := 512) (N := 4096) x r 4096

/-- Offsets that are zero on both axes. -/
theorem offsets_zero : (![0, 0] : Fin 2 → Nat) = fun _ => 0 := funext fun a => by fin_cases a <;> rfl

/-- The tile stored at column `o` agrees with the block's running sums. -/
theorem tile_eq_sums (c : Fin 512 → EReal) (x : Vec Ideal S512x4096 .f32) (o : ℕ)
    (inb : ∀ a, (![0, o] : Fin 2 → ℕ) a + (![512, 256] : Fin 2 → ℕ) a ≤ S512x4096.size a)
    (j : (Rect.unit (s := S512x4096) ![0, o] ![512, 256] inb).shape.Idx) :
    tile c x o j = sums c x ((Rect.unit (s := S512x4096) ![0, o] ![512, 256] inb).emb j) := by
  have h0 : (Rect.unit (s := S512x4096) ![0, o] ![512, 256] inb).emb j 0 = (j 0 : Fin 512) :=
    Fin.ext (by show 0 + 1 * (j 0).val = (j 0).val; omega)
  have h1 : ((Rect.unit (s := S512x4096) ![0, o] ![512, 256] inb).emb j 1).val = o + (j 1).val := by
    show o + 1 * (j 1).val = o + (j 1).val; omega
  unfold tile sums
  rw [h1]
  exact congrArg (fun r : Fin 512 => c r + upto (M := 512) (N := 4096) x r (o + (j 1).val + 1)) h0.symm

section
variable (d : Dev nD) (i : grid0.Coords) (a1 : Memref sig .tc .vmem S512x4096 .f32) (h1 : a1.IsWhole)
  (a2 : Memref sig .tc .vmem S256x256 .f32) (h2 : a2.IsWhole) (a3 : Memref sig .tc .vmem S512x4096 .f32) (h3 : a3.IsWhole)
  (a4 : Memref sig .tc .vmem S512x1 .f32) (h4 : a4.IsWhole) (x : Vec Ideal S512x4096 .f32) (T : Vec Ideal S256x256 .f32)
  (hT : Tri T)
include hT

/-- A later block of a row: the output is the running sums begun at the carried column. -/
theorem out_B (hc : ¬cond0_0 i) (c : Fin 512 → EReal) :
    out0_B_2 d i a1 h1 a2 h2 a3 h3 a4 h4 hc x T (col c) = sums c x := by
  funext y
  unfold out0_B_2
  rw [View.read_writes_eq_canon _ _ _ (cover0_B_2 d i a1 h1 a2 h2 a3 h3 a4 h4 hc x T (col c))]
  refine View.canon_apply_of_pieces (sums c x) _ ?_ y (cover0_B_2 d i a1 h1 a2 h2 a3 h3 a4 h4 hc x T (col c) y)
  unfold kernelRun0_B
  dsimp only
  sl_unfold_words
  simp only [View.readAt_eq_ld, h1.read_unread, h2.read_unread, h4.read_unread,
    View.ld_unit_zero (S := S256x256) offsets_zero, View.ld_unit_zero (S := S512x1) offsets_zero, ld_seg, pay5,
    pay6 T hT, pay7 T hT, pay8 T hT, pay9 T hT, pay10 T hT, pay11 T hT, pay12 T hT, pay13 T hT, pay14 T hT, pay15 T hT,
    pay16 T hT, pay17 T hT, pay18 T hT, pay19 T hT, pay1 T hT, pay2 T hT, List.forall_mem_cons]
  refine ⟨?_, ?_, ?_, ?_, ?_, ?_, ?_, ?_, ?_, ?_, ?_, ?_, ?_, ?_, ?_, ?_, fun p hp => absurd hp List.not_mem_nil⟩ <;>
    exact tile_eq_sums c x _ _

/-- A later block of a row: the carried column ends with the whole row added. -/
theorem sout_B (hc : ¬cond0_0 i) (c : Fin 512 → EReal) :
    sout0_B_0 d i a1 h1 a2 h2 a3 h3 a4 h4 hc x T (col c) = ends c x := by
  unfold sout0_B_0
  rw [View.read_writes_eq_canon _ _ _ (scover0_B_0 d i a1 h1 a2 h2 a3 h3 a4 h4 hc x T (col c))]
  unfold kernelRun0_B
  dsimp only
  sl_unfold_words
  rw [View.canon_unit_zero offsets_zero]
  simp only [View.readAt_eq_ld, h1.read_unread, h2.read_unread, h4.read_unread,
    View.ld_unit_zero (S := S256x256) offsets_zero, View.ld_unit_zero (S := S512x1) offsets_zero, ld_seg, pay5,
    pay9 T hT, pay14 T hT, pay19 T hT, pay3 T hT]
  rfl

/-- The first block of a row: the output is the running sums begun at zero. -/
theorem out_A (hc : cond0_0 i) :
    out0_A_2 d i a1 h1 a2 h2 a3 h3 a4 h4 hc x T = sums (fun _ => 0) x := by
  funext y
  unfold out0_A_2
  rw [View.read_writes_eq_canon _ _ _ (cover0_A_2 d i a1 h1 a2 h2 a3 h3 a4 h4 hc x T)]
  refine View.canon_apply_of_pieces (sums (fun _ => 0) x) _ ?_ y (cover0_A_2 d i a1 h1 a2 h2 a3 h3 a4 h4 hc x T y)
  unfold kernelRun0_A
  dsimp only
  sl_unfold_words
  simp only [View.readAt_eq_ld, h1.read_unread, h2.read_unread, View.readCov_unit_zero (S := S512x1) _ offsets_zero, pay4,
    View.ld_unit_zero (S := S256x256) offsets_zero, ld_seg, pay5,
    pay6 T hT, pay7 T hT, pay8 T hT, pay9 T hT, pay10 T hT, pay11 T hT, pay12 T hT, pay13 T hT, pay14 T hT, pay15 T hT,
    pay16 T hT, pay17 T hT, pay18 T hT, pay19 T hT, pay1 T hT, pay2 T hT, List.forall_mem_cons]
  refine ⟨?_, ?_, ?_, ?_, ?_, ?_, ?_, ?_, ?_, ?_, ?_, ?_, ?_, ?_, ?_, ?_, fun p hp => absurd hp List.not_mem_nil⟩ <;>
    exact tile_eq_sums _ x _ _

/-- The first block of a row: the carried column ends with the whole row. -/
theorem sout_A (hc : cond0_0 i) :
    sout0_A_0 d i a1 h1 a2 h2 a3 h3 a4 h4 hc x T = ends (fun _ => 0) x := by
  unfold sout0_A_0
  rw [View.read_writes_eq_canon _ _ _ (scover0_A_0 d i a1 h1 a2 h2 a3 h3 a4 h4 hc x T)]
  unfold kernelRun0_A
  dsimp only
  sl_unfold_words
  rw [View.canon_cons_unit_zero offsets_zero]
  simp only [View.readAt_eq_ld, h1.read_unread, h2.read_unread, View.readCov_unit_zero (S := S512x1) _ offsets_zero, pay4,
    View.ld_unit_zero (S := S256x256) offsets_zero, ld_seg, pay5, pay9 T hT, pay14 T hT, pay19 T hT, pay3 T hT]
  rfl

end

end Cert.Block
end
-- ==== Proof.Blocks.lean ====
module

public import proofs.«01_k».proof.Proof.Step
public import proofs.«01_k».proof.Proof.Gen.KernelIdeal.Value
public import Idealize.ShloMosaic.Lib.IdealHost
public import Idealize.ShloMosaic.Lib.Tactic

/-! What the blocks of the two arguments hold. The second argument of the kernel is built before it runs: a matrix of ones
with the entries below the diagonal set to zero. The first is the program's own argument, cut in blocks. -/

@[expose] public section
noncomputable section

namespace Cert.Blocks

open Cert.KernelIdeal Cert.KernelIdeal.Gen Idealize.ShloMosaic Idealize.ShloMosaic.TcCoe Idealize.SL.Sem
open Idealize.ShloMosaic.ValueIdx Cert.Upto Cert.Step

variable (m : (ℓ : Loc nD τ sig) → Buf (Elt Ideal) ℓ)

/-- For two numbers below 256 held as 32-bit words: `k - 1 ≥ j` as signed words exactly when `j < k`. -/
theorem word_cmp (k j : Fin 256) :
    IntOp.cmpi .sge (BitVec.ofNat 32 k.val + 4294967295#32) (BitVec.ofNat 32 j.val) =
      BitVec.ofBool (decide (j.val < k.val)) := by
  have hk := k.isLt
  have hj := j.isLt
  unfold IntOp.cmpi
  refine congrArg BitVec.ofBool ?_
  rw [BitVec.sle_eq_decide]
  refine decide_eq_decide.mpr ?_
  have e1 : (BitVec.ofNat 32 j.val).toInt = j.val := by
    rw [BitVec.toInt_ofNat', Int.bmod_def]; omega
  have e2 : (BitVec.ofNat 32 k.val + 4294967295#32).toInt = (k.val : ℤ) - 1 := by
    rw [BitVec.toInt_add, BitVec.toInt_ofNat', BitVec.toInt_ofNat', Int.bmod_def, Int.bmod_def, Int.bmod_def]; omega
  rw [e1, e2]
  omega

/-- The matrix the kernel is given is the upper triangular matrix of ones. -/
theorem V_tri (d : Dev nD) : Tri (V m d main_v1) := by
  have h : V m d main_v1 = select (cmpi .sge (addi (iotaInDim S256x256 32 0)
        (broadcastInDim S256x256 ![] bcast_S_S256x256 (constantI S_ 32 4294967295#32))) (iotaInDim S256x256 32 1))
      (broadcastInDim S256x256 ![] bcast_S_S256x256 (constant (F := Ideal) S_ .f32 0x00000000#32))
      (broadcastInDim S256x256 ![] bcast_S_S256x256 (constant (F := Ideal) S_ .f32 0x3F800000#32)) := by
    unfold V
    simp only [hostOps0, hostOps0_1, List.flatten_cons, List.flatten_nil, List.append_nil, List.cons_append,
      List.nil_append]
    after_results
    simp -implicitDefEqProofs only [StableHlo.TRef.ofBuf, StableHlo.TRef.toBuf, cast_cast, cast_eq]
  intro k j
  rw [h]
  show (if IntOp.cmpi .sge (BitVec.ofNat 32 k.val + 4294967295#32) (BitVec.ofNat 32 j.val) = 1#1
    then Ideal.ofBits .f32 0x00000000#32 else Ideal.ofBits .f32 0x3F800000#32) = _
  rw [word_cmp, Ideal.ofBits_zero_f32, Ideal.ofBits_one_f32]
  by_cases hkj : k.val ≤ j.val
  · rw [if_pos hkj, decide_eq_false (by omega)]; rfl
  · rw [if_neg hkj, decide_eq_true (by omega)]; rfl

/-- The second argument's block, read from any contents of its array, is the whole array at every point of the grid. -/
theorem read_tri (t : Fin cfg0.N) (A : Vec Ideal S256x256 .f32) (k j : Fin 256) :
    (((cfg0.win 1).blk t).view.read (Elt Ideal) A : Vec Ideal S256x256 .f32) (ix2 k j) = A (ix2 k j) := by
  have hi : win0_1.index t 0 = 0 ∧ win0_1.index t 1 = 0 := by
    rcases fin_N0 t with rfl | rfl | rfl | rfl | rfl | rfl | rfl | rfl | rfl | rfl | rfl | rfl | rfl | rfl | rfl | rfl <;>
      decide
  rw [View.read_apply]
  refine congrArg A (funext fun a => Fin.ext ?_)
  match a with
  | ⟨0, _⟩ => show win0_1.index t 0 * 256 + 1 * k.val = k.val; rw [hi.1]; omega
  | ⟨1, _⟩ => show win0_1.index t 1 * 256 + 1 * j.val = j.val; rw [hi.2]; omega

/-- The first argument's block at point `t` is rows `512 (t / 2)` and on, columns `4096 (t % 2)` and on. -/
theorem iblk_arg (d : Dev nD) (t : Fin cfg0.N) (r : Fin 512) (l : Fin 4096) (r' : Fin 4096) (l' : Fin 8192)
    (hr : r'.val = 512 * (t.val / 2) + r.val) (hl : l'.val = 4096 * (t.val % 2) + l.val) :
    (iblk m d 0 t : Vec Ideal S512x4096 .f32) (ix2 r l) = m ((d : Thread nD τ).loc main_arg0) (ix2 r' l') := by
  have hi : win0_0.index t 0 = t.val / 2 ∧ win0_0.index t 1 = t.val % 2 := by
    rcases fin_N0 t with rfl | rfl | rfl | rfl | rfl | rfl | rfl | rfl | rfl | rfl | rfl | rfl | rfl | rfl | rfl | rfl <;>
      decide
  unfold iblk
  rw [View.read_apply]
  show V m d main_arg0 _ = _
  rw [V_main_arg0]
  congr 1
  funext a
  apply Fin.ext
  match a with
  | ⟨0, _⟩ => show win0_0.index t 0 * 512 + 1 * r.val = r'.val; rw [hi.1, hr]; omega
  | ⟨1, _⟩ => show win0_0.index t 1 * 4096 + 1 * l.val = l'.val; rw [hi.2, hl]; omega

/-- So the second argument's block is the triangle of ones at every point. -/
theorem iblk_tri (d : Dev nD) (t : Fin cfg0.N) : Tri (iblk m d 1 t) := fun k j =>
  (read_tri t (V m d main_v1) k j).trans (V_tri m d k j)

end Cert.Blocks
end
-- ==== Proof.Array.lean ====
module

public import proofs.«01_k».proof.Proof.Block
public import proofs.«01_k».proof.Proof.Blocks

/-! What the result array holds. Point `2 p` of the grid works on the left half of rows `512 p` and on, point `2 p + 1` on
the right half, begun at what the left half left in the carried column. So after the run each entry of the array is the
sum of its row up to and including its column. -/

@[expose] public section
noncomputable section

namespace Cert.Array

open Cert.KernelIdeal Cert.KernelIdeal.Gen Idealize.ShloMosaic Idealize.ShloMosaic.TcCoe Idealize.SL.Sem
open Idealize.ShloMosaic.ValueIdx Cert.Upto Cert.Step Cert.Block Cert.Blocks

variable (m : (ℓ : Loc nD τ sig) → Buf (Elt Ideal) ℓ)

/-- The program's argument, as a matrix. -/
abbrev arg (d : Dev nD) : (⟨2, ![4096, 8192]⟩ : Shape).Idx → EReal := m ((d : Thread nD τ).loc main_arg0)

/-- The running sums of a block's row, when the block is part of row `r'` beginning at column `o`. -/
theorem upto_part (x : Vec Ideal S512x4096 .f32) (X : (⟨2, ![4096, 8192]⟩ : Shape).Idx → EReal) (r : Fin 512)
    (r' : Fin 4096) (o : ℕ) (ho : o + 4096 ≤ 8192)
    (hx : ∀ (l : Fin 4096) (l' : Fin 8192), l'.val = o + l.val → x (ix2 r l) = X (ix2 r' l')) (n : ℕ) (hn : n ≤ 4096) :
    upto (M := 4096) (N := 8192) X r' o + upto (M := 512) (N := 4096) x r n = upto (M := 4096) (N := 8192) X r' (o + n) := by
  rw [upto_add]
  refine congrArg _ (Finset.sum_congr rfl fun k hk => ?_)
  have hk' := Finset.mem_range.mp hk
  rw [cell_of_lt (M := 512) (N := 4096) x r k (by omega), cell_of_lt (M := 4096) (N := 8192) X r' (o + k) (by omega)]
  exact hx _ _ rfl

/-- Where row `r` of the block at point `t` lies in the array. -/
def rowOf (t : Fin cfg0.N) (r : Fin 512) : Fin 4096 :=
  ⟨512 * (t.val / 2) + r.val, by
    have h := lt_of_lt_of_eq t.isLt (show cfg0.N = 16 from N_0); have := r.isLt; omega⟩

/-- The block at point `t` continues the array's running sums from its first column. -/
theorem upto_block (d : Dev nD) (t : Fin cfg0.N) (r : Fin 512) (n : ℕ) (hn : n ≤ 4096) :
    upto (M := 4096) (N := 8192) (arg m d) (rowOf t r) (4096 * (t.val % 2)) +
        upto (M := 512) (N := 4096) (iblk m d 0 t) r n =
      upto (M := 4096) (N := 8192) (arg m d) (rowOf t r) (4096 * (t.val % 2) + n) :=
  upto_part _ _ r _ _ (by omega) (fun l l' h => iblk_arg m d t r l _ l' rfl h) n hn

/-- What is left after the left half of the rows: the output block and the carried column. -/
theorem outs_left (d : Dev nD) (t : Fin cfg0.N) (h0 : t.val % 2 = 0) :
    outsAt0 m d t.val t.isLt = (sums (fun _ => 0) (iblk m d 0 t), ends (fun _ => 0) (iblk m d 0 t)) := by
  rw [outsAt0_A m d t h0]
  exact congrArg₂ Prod.mk
    (out_A d _ _ _ _ _ _ _ _ _ (iblk m d 0 t) (iblk m d 1 t) (iblk_tri m d t) _)
    (sout_A d _ _ _ _ _ _ _ _ _ (iblk m d 0 t) (iblk m d 1 t) (iblk_tri m d t) _)

/-- What is left after the right half: the output block, begun at the left half's whole rows. -/
theorem outs_right (d : Dev nD) (t s : Fin cfg0.N) (h0 : ¬t.val % 2 = 0) (hs : s.val = t.val - 1) :
    (outsAt0 m d t.val t.isLt).1 =
      sums (fun r => 0 + upto (M := 512) (N := 4096) (iblk m d 0 s) r 4096) (iblk m d 0 t) := by
  obtain ⟨n, hn⟩ := s
  obtain rfl : n = t.val - 1 := hs
  have hc : (outsAt0 m d (t.val - 1) hn).2 =
      col fun r => 0 + upto (M := 512) (N := 4096) (iblk m d 0 ⟨t.val - 1, hn⟩) r 4096 :=
    congrArg Prod.snd (outs_left m d ⟨t.val - 1, hn⟩ (by show (t.val - 1) % 2 = 0; omega))
  rw [outsAt0_B m d t h0, hc]
  dsimp only
  exact out_B d _ _ _ _ _ _ _ _ _ (iblk m d 0 t) (iblk m d 1 t) (iblk_tri m d t) _ _

/-- The output block at any point: the running sums of the array's rows. -/
theorem outs_eq (d : Dev nD) (t : Fin cfg0.N) (r : Fin 512) (l : Fin 4096) :
    (outsAt0 m d t.val t.isLt).1 (ix2 r l) =
      upto (M := 4096) (N := 8192) (arg m d) (rowOf t r) (4096 * (t.val % 2) + l.val + 1) := by
  have hl := l.isLt
  rw [add_assoc, ← upto_block m d t r (l.val + 1) (by omega)]
  by_cases h0 : t.val % 2 = 0
  · rw [outs_left m d t h0, h0]
    rfl
  · have hs : t.val - 1 < cfg0.N := by have := t.isLt; omega
    rw [outs_right m d t ⟨t.val - 1, hs⟩ h0 rfl]
    have e := upto_block m d ⟨t.val - 1, hs⟩ r 4096 le_rfl
    rw [show 4096 * ((t.val - 1) % 2) = 0 by omega, upto_zero,
      show rowOf ⟨t.val - 1, hs⟩ r = rowOf t r from Fin.ext (by
        show 512 * ((t.val - 1) / 2) + r.val = 512 * (t.val / 2) + r.val; omega)] at e
    rw [show 4096 * (t.val % 2) = 0 + 4096 by omega, ← e]
    rfl

/-- The result array after the run: at each index, the sum of the argument's row up to and including its column. -/
theorem result_eq (d : Dev nD) (r : Fin 4096) (l : Fin 8192) :
    Value.G2 m d (ix2 r l) = upto (M := 4096) (N := 8192) (arg m d) r (l.val + 1) := by
  have hr := r.isLt
  have hl := l.isLt
  have hp : Value.pt2Of (ix2 r l) = 2 * (r.val / 512) + l.val / 4096 := by
    show 2 * (r.val / 512 - 0) + 1 * (l.val / 4096 - 0) = _; omega
  have hN : Value.pt2Of (ix2 r l) < cfg0.N := by
    rw [show cfg0.N = 16 from N_0, hp]; omega
  unfold Value.G2
  rw [dif_pos hN, ← Value.outsAt0_sweep m d _ hN]
  have hloc : Value.loc2Of (ix2 r l) = ix2 (n0 := 512) (n1 := 4096) ⟨r.val % 512, by omega⟩ ⟨l.val % 4096, by omega⟩ :=
    funext fun a => by match a with | ⟨0, _⟩ => rfl | ⟨1, _⟩ => rfl
  rw [hloc]
  refine (outs_eq m d ⟨Value.pt2Of (ix2 r l), hN⟩ _ _).trans ?_
  have e1 : rowOf ⟨Value.pt2Of (ix2 r l), hN⟩ ⟨r.val % 512, by omega⟩ = r := Fin.ext (by
    show 512 * (Value.pt2Of (ix2 r l) / 2) + r.val % 512 = r.val
    rw [hp]; omega)
  have e2 : 4096 * (Value.pt2Of (ix2 r l) % 2) + l.val % 4096 + 1 = l.val + 1 := by rw [hp]; omega
  rw [e1]
  exact congrArg _ e2

end Cert.Array
end
-- ==== Proof.Window.lean ====
module

public import proofs.«01_k».proof.Proof.Upto

/-! What the reference computes: a sum over a sliding window as wide as the row, padded on the left with zeros, is the
row's running sum. Stated for any number of rows and columns. -/

@[expose] public section
noncomputable section

namespace Cert.Window

open Idealize.ShloMosaic Idealize.ShloMosaic.ValueIdx Cert.Upto

/-- The windowed sum at row `r`, column `l` is the sum of the row's first `l + 1` entries. -/
theorem reduceWindow_eq_upto {M N : ℕ} (x : (⟨2, ![M, N]⟩ : Shape).Idx → EReal)
    (h : (⟨2, ![M, N]⟩ : Shape).ReduceWindows ![1, N] ![1, 1] ![0, N - 1] ![0, 0] ⟨2, ![M, N]⟩) (r : Fin M) (l : Fin N) :
    Ideal.hostReduceWindowAdd ![1, N] ![1, 1] ![0, N - 1] ![0, 0] h x 0 (ix2 r l) = upto x r (l.val + 1) := by
  unfold Ideal.hostReduceWindowAdd Host.reduceWindow
  dsimp only
  rw [foldl_add, zero_add, ← List.ofFn_eq_map, List.sum_ofFn]
  rw [Equiv.sum_comp ((⟨2, ![1, N]⟩ : Shape).rowMajor.symm) (fun q =>
    if hin : ∀ a : Fin 2, (![0, N - 1] : Fin 2 → ℕ) a ≤
          (ix2 r l (a.cast h.1.symm)).val * (![1, 1] : Fin 2 → ℕ) a + (q a).val ∧
        (ix2 r l (a.cast h.1.symm)).val * (![1, 1] : Fin 2 → ℕ) a + (q a).val - (![0, N - 1] : Fin 2 → ℕ) a
          < (![M, N] : Fin 2 → ℕ) a
    then x (fun a => ⟨(ix2 r l (a.cast h.1.symm)).val * (![1, 1] : Fin 2 → ℕ) a + (q a).val
      - (![0, N - 1] : Fin 2 → ℕ) a, (hin a).2⟩)
    else 0)]
  rw [sum_idx2, Fin.sum_univ_one]
  have hl := l.isLt
  unfold upto
  rw [← sum_window _ _ hl]
  refine Finset.sum_congr rfl fun b _ => ?_
  have hb := b.isLt
  by_cases hn : N - 1 ≤ l.val + b.val
  · rw [if_pos hn, cell_of_lt _ _ _ (by omega)]
    refine (dif_pos ?_).trans ?_
    · intro a
      match a with
      | ⟨0, _⟩ => exact ⟨Nat.zero_le _, by have := r.isLt; show r.val * 1 + 0 - 0 < M; omega⟩
      | ⟨1, _⟩ =>
        exact ⟨by show N - 1 ≤ l.val * 1 + b.val; omega, by show l.val * 1 + b.val - (N - 1) < N; omega⟩
    · congr 1
      funext a
      match a with
      | ⟨0, _⟩ => exact Fin.ext (by show r.val * 1 + 0 - 0 = r.val; omega)
      | ⟨1, _⟩ => exact Fin.ext (by show l.val * 1 + b.val - (N - 1) = l.val + b.val - (N - 1); omega)
  · rw [if_neg hn]
    refine dif_neg fun hin => hn ?_
    have := (hin 1).1
    change N - 1 ≤ l.val * 1 + b.val at this
    omega

/-- The same for the operation as the reference's program writes it, whose start value is given as an array. -/
theorem reduceWindowAdd_eq_upto {M N : ℕ} {u : Shape} (x : FVec Ideal ⟨2, ![M, N]⟩ .f32) (v : FVec Ideal u .f32)
    (hv : ∀ i, v i = (0 : EReal))
    (h : (⟨2, ![M, N]⟩ : Shape).ReduceWindows ![1, N] ![1, 1] ![0, N - 1] ![0, 0] ⟨2, ![M, N]⟩) (hu : 0 < u.numel)
    (r : Fin M) (l : Fin N) :
    Host.reduceWindowAdd (F := Ideal) ![1, N] ![1, 1] ![0, N - 1] ![0, 0] x v h hu (ix2 r l) = upto x r (l.val + 1) := by
  have e := reduceWindow_eq_upto x h r l
  rw [← hv (Shape.Idx.first hu)] at e
  exact e

end Cert.Window
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.Window
public import Idealize.ShloMosaic.Adequacy
public import Idealize.ShloMosaic.Init
public import Idealize.ShloMosaic.Lib.Quiescent

@[expose] public section

noncomputable section

namespace Cert.Proof

open Idealize.ShloMosaic Idealize.SL.Sem

/-- The reference's run ends with every counter at zero and its argument unchanged. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's exact reading and the reference's end with the same array, on every argument. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨r, l, rfl⟩ : ∃ (r : Fin 4096) (l : Fin 8192), i = ValueIdx.ix2 r l := ⟨i 0, i 1, ValueIdx.eq_ix2 i⟩
  exact (Window.reduceWindowAdd_eq_upto (M := 4096) (N := 8192) _ _ (fun _ => Ideal.ofBits_zero_f32) _ _ r l).trans
    (Array.result_eq m c r l).symm

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
